-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x96x384x384 : Shape := ⟨4, ![4, 96, 384, 384]⟩
abbrev S4x1x384x384 : Shape := ⟨4, ![4, 1, 384, 384]⟩
abbrev S96x96x1x1 : Shape := ⟨4, ![96, 96, 1, 1]⟩
abbrev S96 : Shape := ⟨1, ![96]⟩
abbrev S96x96 : Shape := ⟨2, ![96, 96]⟩
abbrev S96x1 : Shape := ⟨2, ![96, 1]⟩
abbrev S1x96x96x384 : Shape := ⟨4, ![1, 96, 96, 384]⟩
abbrev S96x96x384 : Shape := ⟨3, ![96, 96, 384]⟩
abbrev S96x1x1 : Shape := ⟨3, ![96, 1, 1]⟩

abbrev nBuf : Space → Nat
  | .hbm => 7
  | .vmem => 6
  | .smem => 0
  | _ => 0

abbrev bufTy : (tb : Table) → Fin (tcTables nBuf tb) → BufTy
  | .hbm, ⟨0, _⟩ => ⟨S4x96x384x384, .f32⟩
  | .hbm, ⟨1, _⟩ => ⟨S4x1x384x384, .f32⟩
  | .hbm, ⟨2, _⟩ => ⟨S96x96x1x1, .f32⟩
  | .hbm, ⟨3, _⟩ => ⟨S96, .f32⟩
  | .hbm, ⟨4, _⟩ => ⟨S96x96, .f32⟩
  | .hbm, ⟨5, _⟩ => ⟨S96x1, .f32⟩
  | .hbm, ⟨6, _⟩ => ⟨S4x96x384x384, .f32⟩
  | .local _ .vmem, ⟨0, _⟩ => ⟨S1x96x96x384, .f32⟩
  | .local _ .vmem, ⟨1, _⟩ => ⟨S1x96x96x384, .f32⟩
  | .local _ .vmem, ⟨2, _⟩ => ⟨S96x96, .f32⟩
  | .local _ .vmem, ⟨3, _⟩ => ⟨S96x1, .f32⟩
  | .local _ .vmem, ⟨4, _⟩ => ⟨S1x96x96x384, .f32⟩
  | .local _ .vmem, ⟨5, _⟩ => ⟨S1x96x96x384, .f32⟩
  | _, _ => ⟨S4x96x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x96x96x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S96x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S96x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x96x96x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S4x96x384x384 : Shape := ⟨4, ![4, 96, 384, 384]⟩
abbrev S4x1x384x384 : Shape := ⟨4, ![4, 1, 384, 384]⟩
abbrev S96x96x1x1 : Shape := ⟨4, ![96, 96, 1, 1]⟩
abbrev S96 : Shape := ⟨1, ![96]⟩
abbrev S96x96 : Shape := ⟨2, ![96, 96]⟩
abbrev S4x384x384x96 : Shape := ⟨4, ![4, 384, 384, 96]⟩
abbrev S1x96x1x1 : Shape := ⟨4, ![1, 96, 1, 1]⟩

abbrev nBuf : Space → Nat
  | .hbm => 10
  | .vmem => 0
  | .smem => 0
  | _ => 0

abbrev bufTy : (tb : Table) → Fin (tcTables nBuf tb) → BufTy
  | .hbm, ⟨0, _⟩ => ⟨S4x96x384x384, .f32⟩
  | .hbm, ⟨1, _⟩ => ⟨S4x1x384x384, .f32⟩
  | .hbm, ⟨2, _⟩ => ⟨S96x96x1x1, .f32⟩
  | .hbm, ⟨3, _⟩ => ⟨S96, .f32⟩
  | .hbm, ⟨4, _⟩ => ⟨S96x96, .f32⟩
  | .hbm, ⟨5, _⟩ => ⟨S4x384x384x96, .f32⟩
  | .hbm, ⟨6, _⟩ => ⟨S4x96x384x384, .f32⟩
  | .hbm, ⟨7, _⟩ => ⟨S1x96x1x1, .f32⟩
  | .hbm, ⟨8, _⟩ => ⟨S4x96x384x384, .f32⟩
  | .hbm, ⟨9, _⟩ => ⟨S4x96x384x384, .f32⟩
  | _, _ => ⟨S4x96x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Proof.Conv.lean ====
/-
  THE FUNCTION both programs compute: a 1×1 convolution with bias over a batch of images in NCHW layout, at the ideal
  values (a float an extended real, `+` and `·` exact).
-/
module

public import Idealize.ShloMosaic.PureOps.Ideal
public import Idealize.ShloMosaic.Lib.Pointwise

@[expose] public section

noncomputable section

namespace Cert.Conv

open Idealize.ShloMosaic
open scoped BigOperators

/-- The images' shape: 4 images of 96 channels of 384 × 384 pixels, the operand's and the result's. -/
abbrev Img : Shape := ⟨4, ![4, 96, 384, 384]⟩
/-- The filter's shape: output channel, input channel, and a window of one pixel. -/
abbrev Filter : Shape := ⟨4, ![96, 96, 1, 1]⟩
/-- The bias's shape: one value for every output channel. -/
abbrev Bias : Shape := ⟨1, ![96]⟩

/-- The convolution at one element: image `n`, output channel `o`, pixel `(h, w)`. It is the sum, over the input
    channels, of the filter's weight times the pixel's value in that channel, plus the output channel's bias. -/
def convAt (x : Img.Idx → EReal) (W : Filter.Idx → EReal) (b : Bias.Idx → EReal) (n : Fin 4) (o : Fin 96) (h w : Fin 384) : EReal :=
  (∑ k : Fin 96, W (ix4 o k 0 0) * x (ix4 n k h w)) + b (ix1 o)

/-- The convolution as a whole array. -/
def conv (x : Img.Idx → EReal) (W : Filter.Idx → EReal) (b : Bias.Idx → EReal) : Img.Idx → EReal :=
  fun i => convAt x W b (i 0) (i 1) (i 2) (i 3)

end Cert.Conv

end
-- ==== Proof.Block.lean ====
/-
  WHAT ONE GRID POINT COMPUTES: the kernel body's stored value, read at an index of the block.
-/
module

public import proofs.«01_k».proof.Proof.Conv
public import proofs.«01_k».proof.Proof.Gen.KernelIdeal.Skeleton

@[expose] public section

set_option maxRecDepth 16384

noncomputable section

namespace Cert.Conv.Block

open Cert.KernelIdeal Cert.KernelIdeal.Gen Idealize.ShloMosaic
open scoped BigOperators

/-- The block that the body stores, at output channel `o` and pixel `(h, w)` of the block: the sum over the input
    channels of the weight times the block's value there, plus the bias. The accumulator is the zero splat, and the two
    casts to the narrower format are the identity on the ideal values. -/
theorem pay_apply (x : Vec Ideal S1x96x96x384 .f32) (W : Vec Ideal S96x96 .f32) (b : Vec Ideal S96x1 .f32)
    (z : Fin 1) (o : Fin 96) (h : Fin 96) (w : Fin 384) :
    k0_pay1 (F := Ideal) x W b (ix4 z o h w)
      = ((∑ k : Fin 96, W (ix2 o k) * x (ix4 0 k h w) : EReal) + b (ix2 o 0) : EReal) := by
  pointwise [k0_pay1]

end Cert.Conv.Block

end
-- ==== Proof.KernelValue.lean ====
/-
  WHAT THE KERNEL'S RESULT ARRAY HOLDS after the run: the 1×1 convolution of `Proof/Conv.lean`, assembled from the blocks
  that the grid points write back.
-/
module

public import proofs.«01_k».proof.Proof.Block
public import proofs.«01_k».proof.Proof.Gen.KernelIdeal.Value
public import Idealize.ShloMosaic.Lib.Pipeline.ValueKit

@[expose] public section

set_option maxRecDepth 16384

noncomputable section

namespace Cert.Conv.Kernel

open Cert.KernelIdeal Cert.KernelIdeal.Gen Idealize.ShloMosaic Idealize.ShloMosaic.TcCoe Idealize.SL.Sem
open scoped BigOperators

variable (m : (ℓ : Loc nD τ sig) → Buf (Elt Ideal) ℓ)

/-- The convolution of device `c`'s arguments. -/
abbrev result (c : Dev nD) : Buf (Elt Ideal) ((c : Thread nD τ).loc main_v2) :=
  conv (m ((c : Thread nD τ).loc main_arg0)) (m ((c : Thread nD τ).loc main_arg2)) (m ((c : Thread nD τ).loc main_arg3))

/-- The images' block and the result's block at a point are the same: same image, same rows; and each block spans all
    channels and columns. -/
theorem idx_img : ∀ t : Fin cfg0.N, win0_0.index t 0 = win0_3.index t 0 ∧ win0_0.index t 2 = win0_3.index t 2
    ∧ win0_0.index t 1 = 0 ∧ win0_0.index t 3 = 0 ∧ win0_3.index t 1 = 0 ∧ win0_3.index t 3 = 0 :=
  (by decide +kernel : ∀ t : Fin grid0.N, _)

/-- The filter and the bias are staged whole at every point. -/
theorem idx_whole : ∀ t : Fin cfg0.N, win0_1.index t 0 = 0 ∧ win0_1.index t 1 = 0 ∧ win0_2.index t 0 = 0 ∧ win0_2.index t 1 = 0 :=
  (by decide +kernel : ∀ t : Fin grid0.N, _)

/-- The result array after the run is the convolution: its blocks tile it, and what each point stores is the
    convolution read at the block's place. -/
theorem final (c : Dev nD) : (dats m 0 c).arrAt 3 cfg0.N = result m c := by
  refine (dats m 0 c).arrAt_eq_of_covers 3 _ (by decide +kernel) fun t hf y => ?_
  obtain ⟨e0, e2, z1, z3, o1, o3⟩ := idx_img t
  obtain ⟨f0, f1, b0, b1⟩ := idx_whole t
  blk_simp
  rw [after0_3]
  frame_out
  idx_vars y
  rw [Block.pay_apply]
  simp only [result, conv, convAt]
  blk_point [iblk, V, e0, e2, z1, z3, o1, o3, f0, f1, b0, b1]

/-- The kernel's run, read: from any memory it ends with the convolution in its result array and its arguments as they
    were. -/
theorem run (ρ : Dev nD → PrngReg) : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks (F := Ideal) m ρ)

end Cert.Conv.Kernel

end
-- ==== Proof.RefValue.lean ====
/-
  WHAT THE REFERENCE COMPUTES: its composed term of the arguments is the 1×1 convolution of `Proof/Conv.lean`.
-/
module

public import proofs.«01_k».proof.Proof.Conv
public import proofs.«01_k».proof.Proof.Gen.ReferenceIdeal.Run

@[expose] public section

set_option maxRecDepth 16384

noncomputable section

namespace Cert.Conv.Ref

open Cert.ReferenceIdeal Cert.ReferenceIdeal.Gen Idealize.ShloMosaic

/-- The reference's chain of operations on the images `x`, the filter `W` and the bias `b`: drop the filter's two unit
    axes, contract the channels, put the output channels back in second place, add the bias along them. -/
def term (x : FVec Ideal S4x96x384x384 .f32) (W : FVec Ideal S96x96x1x1 .f32) (b : FVec Ideal S96 .f32) : FVec Ideal S4x96x384x384 .f32 :=
  addf (transpose S4x96x384x384 [0, 3, 1, 2]
      (Host.dotGeneral dot_S4x96x384x384_S96x96_S4x384x384x96_1_1_023_0_n_n none x (shapeCast _ W shapeCasts_S96x96x1x1_S96x96))
      transposes_S4x384x384x96_S4x96x384x384_0_3_1_2)
    (broadcastInDim S4x96x384x384 ![0, 1, 2, 3] bcast_S1x96x1x1_S4x96x384x384_0_1_2_3 (shapeCast _ b shapeCasts_S96_S1x96x1x1))

/-- That chain is the convolution: each layout operation read at an index, the contraction as its sum over the
    channels, whose products the reference takes in the other order. -/
theorem term_eq (x : FVec Ideal S4x96x384x384 .f32) (W : FVec Ideal S96x96x1x1 .f32) (b : FVec Ideal S96 .f32) :
    term x W b = conv x W b := by
  funext j
  idx_vars j
  pointwise [term, conv, convAt]
  exact congrArg (· + b (ix1 j1)) (Finset.sum_congr rfl fun k _ => mul_comm _ _)

end Cert.Conv.Ref

end
-- ==== Proof.lean ====
/- The claims about the 1×1 convolution kernel, assembled: the frames, and the equality of the idealized kernel's and the
   idealized reference's results, both of which are the convolution of `Proof/Conv.lean`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.KernelValue
public import proofs.«01_k».proof.Proof.RefValue
public import Idealize.ShloMosaic.Lib.Quiescent
public import Idealize.ShloMosaic.Adequacy
public import Idealize.ShloMosaic.Init

@[expose] public section

noncomputable section

namespace Cert.Proof

open Idealize.ShloMosaic Idealize.SL.Sem

/-- The kernel runs without fault, leaves its arguments unchanged and every semaphore counter at zero. -/
theorem frame_kernel : Cert.quiescent_Kernel := fun m ρ _ => Cert.Kernel.Gen.frame m ρ

/-- The same of the kernel read over the extended reals. -/
theorem frame_kernelIdeal : Cert.quiescent_KernelIdeal := fun m ρ _ => Cert.KernelIdeal.Gen.frame m ρ

/-- The same of the reference, which has no semaphores. -/
theorem frame_referenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Kernel and reference, from memories that agree on the arguments, both end with the convolution of those arguments. -/
theorem algebraic : Cert.algebraic_KernelIdeal_ReferenceIdeal := by
  intro m ρ m' ρ' _ agree
  refine ⟨fun c => Cert.Conv.Kernel.result m c, Cert.Conv.Kernel.run m ρ, ?_⟩
  refine (θ_run Cert.ReferenceIdeal.defs _ _).mono (fun r h c => ⟨(h c).1.trans ?_, (h c).2⟩)
    (Cert.ReferenceIdeal.Value.run (F := Ideal) m' ρ')
  obtain ⟨h0, -, h2, h3⟩ := agree c
  rw [h0, h2, h3]
  exact Cert.Conv.Ref.term_eq _ _ _

/-- All the claims. -/
theorem claim : Cert.Claim :=
  ⟨Cert.Kernel.Gen.facts, Cert.KernelIdeal.Gen.facts, Cert.ReferenceIdeal.Gen.facts,
    frame_kernel, frame_kernelIdeal, frame_referenceIdeal, trivial, algebraic⟩

end Cert.Proof

end
